-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases_finite_router [hPre_zero_biases_finite_router : Cert.Pre_zero_biases_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases_finite_router [hPre_zero_biases_finite_router : Cert.Pre_zero_biases_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_zero_biases_finite_router [hKernelIdeal : Cert.KernelIdeal.Facts] [hPre_zero_biases_finite_router : Cert.Pre_zero_biases_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_zero_biases_finite_router [hReferenceIdeal : Cert.ReferenceIdeal.Facts] [hPre_zero_biases_finite_router : Cert.Pre_zero_biases_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "cubic" .bf16 0x3D37#16 ((12003091 / 268435456 : ℝ) : EReal)
  ∧ IdealRules.named_const.Statement Cert.KernelIdeal.κ "root" .bf16 0x3F4C#16 ((6693141 / 8388608 : ℝ) : EReal)

def algebraic_KernelIdeal_ReferenceIdeal_pre_zero_biases_finite_router [hKernelIdeal : Cert.KernelIdeal.Facts] [hReferenceIdeal : Cert.ReferenceIdeal.Facts] [hPre_zero_biases_finite_router : Cert.Pre_zero_biases_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_zero_biases_finite_router : Cert.Pre_zero_biases_finite_router.Facts),
    quiescent_Kernel (hKernel := hKernel)
    ∧ quiescent_KernelIdeal (hKernelIdeal := hKernelIdeal)
    ∧ quiescent_KernelIdeal_pre_zero_biases_finite_router (hKernelIdeal := hKernelIdeal) (hPre_zero_biases_finite_router := hPre_zero_biases_finite_router)
    ∧ quiescent_ReferenceIdeal (hReferenceIdeal := hReferenceIdeal)
    ∧ quiescent_ReferenceIdeal_pre_zero_biases_finite_router (hReferenceIdeal := hReferenceIdeal) (hPre_zero_biases_finite_router := hPre_zero_biases_finite_router)
    ∧ preserves_Kernel_KernelIdeal
    ∧ algebraic_KernelIdeal_ReferenceIdeal_pre_zero_biases_finite_router (hKernelIdeal := hKernelIdeal) (hReferenceIdeal := hReferenceIdeal) (hPre_zero_biases_finite_router := hPre_zero_biases_finite_router)
-- ==== Pre_zero_biases_finite_router.lean ====
abbrev S1x2048x768 : Shape := ⟨3, ![1, 2048, 768]⟩
abbrev S768x8 : Shape := ⟨2, ![768, 8]⟩
abbrev S8 : Shape := ⟨1, ![8]⟩
abbrev S8x768x1536 : Shape := ⟨3, ![8, 768, 1536]⟩
abbrev S8x1536 : Shape := ⟨2, ![8, 1536]⟩
abbrev S8x1536x768 : Shape := ⟨3, ![8, 1536, 768]⟩
abbrev S8x768 : Shape := ⟨2, ![8, 768]⟩
abbrev S768x1536 : Shape := ⟨2, ![768, 1536]⟩
abbrev S1536 : Shape := ⟨1, ![1536]⟩
abbrev S1536x768 : Shape := ⟨2, ![1536, 768]⟩
abbrev S768 : Shape := ⟨1, ![768]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S8x1536 : S_.BroadcastsInDim S8x1536 (![] : Fin 0 → Fin S8x1536.rank)
  reducesTo_S8x1536_S_d0_1 : S8x1536.ReducesTo [0, 1] S_
  bcast_S_S8x768 : S_.BroadcastsInDim S8x768 (![] : Fin 0 → Fin S8x768.rank)
  reducesTo_S8x768_S_d0_1 : S8x768.ReducesTo [0, 1] S_
  bcast_S_S1536 : S_.BroadcastsInDim S1536 (![] : Fin 0 → Fin S1536.rank)
  reducesTo_S1536_S_d0 : S1536.ReducesTo [0] S_
  bcast_S_S768 : S_.BroadcastsInDim S768 (![] : Fin 0 → Fin S768.rank)
  reducesTo_S768_S_d0 : S768.ReducesTo [0] S_
  bcast_S_S1x2048x768 : S_.BroadcastsInDim S1x2048x768 (![] : Fin 0 → Fin S1x2048x768.rank)
  reducesTo_S1x2048x768_S_d0_1_2 : S1x2048x768.ReducesTo [0, 1, 2] S_
  bcast_S_S768x8 : S_.BroadcastsInDim S768x8 (![] : Fin 0 → Fin S768x8.rank)
  reducesTo_S768x8_S_d0_1 : S768x8.ReducesTo [0, 1] S_

variable [Facts]

def fn_part1 {F : FTy → Type} [FloatOps F] (main_arg0 : FVec F S1x2048x768 .f32) (main_arg2 : FVec F S768x8 .f32) (main_arg11 : FVec F S768 .f32) (main_v14 : IVec S_ 1) (main_cst_6 : FVec F S_ .f32) : IVec S_ 1 :=
  let main_v15 : FVec F S768 .f32 := broadcastInDim S768 ![] bcast_S_S768 main_cst_6
  let main_v16 : IVec S768 1 := cmpf .oeq main_arg11 main_v15
  let main_c_7 : IVec S_ 1 := constantI S_ 1 1#1
  let main_v17 : IVec S_ 1 := (fun x v => Host.reduce IntOp.andi x v reducesTo_S768_S_d0 h_S_) main_v16 main_c_7
  let main_v18 : IVec S_ 1 := andi main_v14 main_v17
  let main_v19 : FVec F S1x2048x768 .f32 := Host.absf main_arg0
  let main_cst_8 : FVec F S_ .f32 := constant S_ .f32 0x7F800000#32
  let main_v20 : FVec F S1x2048x768 .f32 := broadcastInDim S1x2048x768 ![] bcast_S_S1x2048x768 main_cst_8
  let main_v21 : IVec S1x2048x768 1 := cmpf .olt main_v19 main_v20
  let main_c_9 : IVec S_ 1 := constantI S_ 1 1#1
  let main_v22 : IVec S_ 1 := (fun x v => Host.reduce IntOp.andi x v reducesTo_S1x2048x768_S_d0_1_2 h_S_) main_v21 main_c_9
  let main_v23 : IVec S_ 1 := andi main_v18 main_v22
  let main_v24 : FVec F S768x8 .f32 := Host.absf main_arg2
  let main_cst_10 : FVec F S_ .f32 := constant S_ .f32 0x7F800000#32
  let main_v25 : FVec F S768x8 .f32 := broadcastInDim S768x8 ![] bcast_S_S768x8 main_cst_10
  let main_v26 : IVec S768x8 1 := cmpf .olt main_v24 main_v25
  let main_c_11 : IVec S_ 1 := constantI S_ 1 1#1
  let main_v27 : IVec S_ 1 := (fun x v => Host.reduce IntOp.andi x v reducesTo_S768x8_S_d0_1 h_S_) main_v26 main_c_11
  let main_v28 : IVec S_ 1 := andi main_v23 main_v27
  main_v28

def fn {F : FTy → Type} [FloatOps F] (main_arg0 : FVec F S1x2048x768 .f32) (main_arg1 : FVec F S1x2048x768 .f32) (main_arg2 : FVec F S768x8 .f32) (main_arg3 : FVec F S8 .f32) (main_arg4 : FVec F S8x768x1536 .f32) (main_arg5 : FVec F S8x1536 .f32) (main_arg6 : FVec F S8x1536x768 .f32) (main_arg7 : FVec F S8x768 .f32) (main_arg8 : FVec F S768x1536 .f32) (main_arg9 : FVec F S1536 .f32) (main_arg10 : FVec F S1536x768 .f32) (main_arg11 : FVec F S768 .f32) : IVec S_ 1 :=
  let main_cst : FVec F S_ .f32 := constant S_ .f32 0x00000000#32
  let main_v0 : FVec F S8 .f32 := broadcastInDim S8 ![] bcast_S_S8 main_cst
  let main_v1 : IVec S8 1 := cmpf .oeq main_arg3 main_v0
  let main_c : IVec S_ 1 := constantI S_ 1 1#1
  let main_v2 : IVec S_ 1 := (fun x v => Host.reduce IntOp.andi x v reducesTo_S8_S_d0 h_S_) main_v1 main_c
  let main_cst_0 : FVec F S_ .f32 := constant S_ .f32 0x00000000#32
  let main_v3 : FVec F S8x1536 .f32 := broadcastInDim S8x1536 ![] bcast_S_S8x1536 main_cst_0
  let main_v4 : IVec S8x1536 1 := cmpf .oeq main_arg5 main_v3
  let main_c_1 : IVec S_ 1 := constantI S_ 1 1#1
  let main_v5 : IVec S_ 1 := (fun x v => Host.reduce IntOp.andi x v reducesTo_S8x1536_S_d0_1 h_S_) main_v4 main_c_1
  let main_v6 : IVec S_ 1 := andi main_v2 main_v5
  let main_cst_2 : FVec F S_ .f32 := constant S_ .f32 0x00000000#32
  let main_v7 : FVec F S8x768 .f32 := broadcastInDim S8x768 ![] bcast_S_S8x768 main_cst_2
  let main_v8 : IVec S8x768 1 := cmpf .oeq main_arg7 main_v7
  let main_c_3 : IVec S_ 1 := constantI S_ 1 1#1
  let main_v9 : IVec S_ 1 := (fun x v => Host.reduce IntOp.andi x v reducesTo_S8x768_S_d0_1 h_S_) main_v8 main_c_3
  let main_v10 : IVec S_ 1 := andi main_v6 main_v9
  let main_cst_4 : FVec F S_ .f32 := constant S_ .f32 0x00000000#32
  let main_v11 : FVec F S1536 .f32 := broadcastInDim S1536 ![] bcast_S_S1536 main_cst_4
  let main_v12 : IVec S1536 1 := cmpf .oeq main_arg9 main_v11
  let main_c_5 : IVec S_ 1 := constantI S_ 1 1#1
  let main_v13 : IVec S_ 1 := (fun x v => Host.reduce IntOp.andi x v reducesTo_S1536_S_d0 h_S_) main_v12 main_c_5
  let main_v14 : IVec S_ 1 := andi main_v10 main_v13
  let main_cst_6 : FVec F S_ .f32 := constant S_ .f32 0x00000000#32
  fn_part1 (F := F) main_arg0 main_arg2 main_arg11 main_v14 main_cst_6
-- ==== Kernel.lean ====
abbrev S1x2048x768 : Shape := ⟨3, ![1, 2048, 768]⟩
abbrev S768x8 : Shape := ⟨2, ![768, 8]⟩
abbrev S8 : Shape := ⟨1, ![8]⟩
abbrev S8x768x1536 : Shape := ⟨3, ![8, 768, 1536]⟩
abbrev S8x1536 : Shape := ⟨2, ![8, 1536]⟩
abbrev S8x1536x768 : Shape := ⟨3, ![8, 1536, 768]⟩
abbrev S8x768 : Shape := ⟨2, ![8, 768]⟩
abbrev S768x1536 : Shape := ⟨2, ![768, 1536]⟩
abbrev S1536 : Shape := ⟨1, ![1536]⟩
abbrev S1536x768 : Shape := ⟨2, ![1536, 768]⟩
abbrev S768 : Shape := ⟨1, ![768]⟩
abbrev S2048x768 : Shape := ⟨2, ![2048, 768]⟩
abbrev S1024x768 : Shape := ⟨2, ![1024, 768]⟩
abbrev S1x768x1536 : Shape := ⟨3, ![1, 768, 1536]⟩
abbrev S1x1536x768 : Shape := ⟨3, ![1, 1536, 768]⟩
abbrev S1024x8 : Shape := ⟨2, ![1024, 8]⟩
abbrev S1024 : Shape := ⟨1, ![1024]⟩
abbrev S1024x1 : Shape := ⟨2, ![1024, 1]⟩
abbrev S1024x1536 : Shape := ⟨2, ![1024, 1536]⟩
abbrev S1x8 : Shape := ⟨2, ![1, 8]⟩

abbrev nBuf : Space → Nat
  | .hbm => 15
  | .vmem => 14
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S768x8, .f32⟩
  | .hbm, ⟨3, _⟩ => ⟨S8, .f32⟩
  | .hbm, ⟨4, _⟩ => ⟨S8x768x1536, .f32⟩
  | .hbm, ⟨5, _⟩ => ⟨S8x1536, .f32⟩
  | .hbm, ⟨6, _⟩ => ⟨S8x1536x768, .f32⟩
  | .hbm, ⟨7, _⟩ => ⟨S8x768, .f32⟩
  | .hbm, ⟨8, _⟩ => ⟨S768x1536, .f32⟩
  | .hbm, ⟨9, _⟩ => ⟨S1536, .f32⟩
  | .hbm, ⟨10, _⟩ => ⟨S1536x768, .f32⟩
  | .hbm, ⟨11, _⟩ => ⟨S768, .f32⟩
  | .hbm, ⟨12, _⟩ => ⟨S2048x768, .f32⟩
  | .hbm, ⟨13, _⟩ => ⟨S2048x768, .f32⟩
  | .hbm, ⟨14, _⟩ => ⟨S2048x768, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S768x8, .f32⟩
  | .local _ .vmem, ⟨5, _⟩ => ⟨S1x768x1536, .f32⟩
  | .local _ .vmem, ⟨6, _⟩ => ⟨S1x768x1536, .f32⟩
  | .local _ .vmem, ⟨7, _⟩ => ⟨S1x1536x768, .f32⟩
  | .local _ .vmem, ⟨8, _⟩ => ⟨S1x1536x768, .f32⟩
  | .local _ .vmem, ⟨9, _⟩ => ⟨S768x1536, .f32⟩
  | .local _ .vmem, ⟨10, _⟩ => ⟨S1536x768, .f32⟩
  | .local _ .vmem, ⟨11, _⟩ => ⟨S1024x768, .f32⟩
  | .local _ .vmem, ⟨12, _⟩ => ⟨S1024x768, .f32⟩
  | .local _ .vmem, ⟨13, _⟩ => ⟨S1024x8, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let c7_i32 : BitVec 32 := 7#32
  let v11 : BitVec 32 := Scalar.subi c7_i32 arg1
  let v12 : BitVec 32 := Scalar.select v10 v11 arg1
  let c0_i32_4 : BitVec 32 := 0#32
  let c0_i32_5 : BitVec 32 := 0#32
  let c0_i32_6 : BitVec 32 := 0#32
  ![v12.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let c7_i32 : BitVec 32 := 7#32
  let v11 : BitVec 32 := Scalar.subi c7_i32 arg1
  let v12 : BitVec 32 := Scalar.select v10 v11 arg1
  let c0_i32_4 : BitVec 32 := 0#32
  let c0_i32_5 : BitVec 32 := 0#32
  let c0_i32_6 : BitVec 32 := 0#32
  ![v12.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1536x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S768x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1536x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "cubic" => some ((12003091 / 268435456 : ℝ) : EReal)
  | "root" => some ((6693141 / 8388608 : ℝ) : EReal)
  | _ => none
-- ==== ReferenceIdeal.lean ====
abbrev S1x2048x768 : Shape := ⟨3, ![1, 2048, 768]⟩
abbrev S768x8 : Shape := ⟨2, ![768, 8]⟩
abbrev S8 : Shape := ⟨1, ![8]⟩
abbrev S8x768x1536 : Shape := ⟨3, ![8, 768, 1536]⟩
abbrev S8x1536 : Shape := ⟨2, ![8, 1536]⟩
abbrev S8x1536x768 : Shape := ⟨3, ![8, 1536, 768]⟩
abbrev S8x768 : Shape := ⟨2, ![8, 768]⟩
abbrev S768x1536 : Shape := ⟨2, ![768, 1536]⟩
abbrev S1536 : Shape := ⟨1, ![1536]⟩
abbrev S1536x768 : Shape := ⟨2, ![1536, 768]⟩
abbrev S768 : Shape := ⟨1, ![768]⟩
abbrev S1x2048x8 : Shape := ⟨3, ![1, 2048, 8]⟩
abbrev S1x1x8 : Shape := ⟨3, ![1, 1, 8]⟩
abbrev S_ : Shape := ⟨0, ![]⟩
abbrev S1x2048 : Shape := ⟨2, ![1, 2048]⟩
abbrev S1x2048x1 : Shape := ⟨3, ![1, 2048, 1]⟩
abbrev S1x2048x8x1536 : Shape := ⟨4, ![1, 2048, 8, 1536]⟩
abbrev S1x1x8x1536 : Shape := ⟨4, ![1, 1, 8, 1536]⟩
abbrev S8x768x1x2048 : Shape := ⟨4, ![8, 768, 1, 2048]⟩
abbrev S1x2048x8x768 : Shape := ⟨4, ![1, 2048, 8, 768]⟩
abbrev S1x1x8x768 : Shape := ⟨4, ![1, 1, 8, 768]⟩
abbrev S1x2048x8x1 : Shape := ⟨4, ![1, 2048, 8, 1]⟩
abbrev S1x2048x1536 : Shape := ⟨3, ![1, 2048, 1536]⟩
abbrev S1x1x1536 : Shape := ⟨3, ![1, 1, 1536]⟩
abbrev S1x1x768 : Shape := ⟨3, ![1, 1, 768]⟩
abbrev S2048x768 : Shape := ⟨2, ![2048, 768]⟩

abbrev nBuf : Space → Nat
  | .hbm => 88
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S768x8, .f32⟩
  | .hbm, ⟨3, _⟩ => ⟨S8, .f32⟩
  | .hbm, ⟨4, _⟩ => ⟨S8x768x1536, .f32⟩
  | .hbm, ⟨5, _⟩ => ⟨S8x1536, .f32⟩
  | .hbm, ⟨6, _⟩ => ⟨S8x1536x768, .f32⟩
  | .hbm, ⟨7, _⟩ => ⟨S8x768, .f32⟩
  | .hbm, ⟨8, _⟩ => ⟨S768x1536, .f32⟩
  | .hbm, ⟨9, _⟩ => ⟨S1536, .f32⟩
  | .hbm, ⟨10, _⟩ => ⟨S1536x768, .f32⟩
  | .hbm, ⟨11, _⟩ => ⟨S768, .f32⟩
  | .hbm, ⟨12, _⟩ => ⟨S1x2048x8, .f32⟩
  | .hbm, ⟨13, _⟩ => ⟨S1x1x8, .f32⟩
  | .hbm, ⟨14, _⟩ => ⟨S1x2048x8, .f32⟩
  | .hbm, ⟨15, _⟩ => ⟨S1x2048x8, .f32⟩
  | .hbm, ⟨16, _⟩ => ⟨S_, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S1x2048x1, .f32⟩
  | .hbm, ⟨22, _⟩ => ⟨S1x2048x8, .f32⟩
  | .hbm, ⟨23, _⟩ => ⟨S1x2048x8, .f32⟩
  | .hbm, ⟨24, _⟩ => ⟨S1x2048x8, .f32⟩
  | .hbm, ⟨25, _⟩ => ⟨S_, .f32⟩
  | .hbm, ⟨26, _⟩ => ⟨S1x2048, .f32⟩
  | .hbm, ⟨27, _⟩ => ⟨S1x2048x1, .f32⟩
  | .hbm, ⟨28, _⟩ => ⟨S1x2048x8, .f32⟩
  | .hbm, ⟨29, _⟩ => ⟨S1x2048x8, .f32⟩
  | .hbm, ⟨30, _⟩ => ⟨S1x2048x8x1536, .f32⟩
  | .hbm, ⟨31, _⟩ => ⟨S1x1x8x1536, .f32⟩
  | .hbm, ⟨32, _⟩ => ⟨S1x2048x8x1536, .f32⟩
  | .hbm, ⟨33, _⟩ => ⟨S1x2048x8x1536, .f32⟩
  | .hbm, ⟨34, _⟩ => ⟨S1x2048x8x1536, .f32⟩
  | .hbm, ⟨35, _⟩ => ⟨S1x2048x8x1536, .f32⟩
  | .hbm, ⟨36, _⟩ => ⟨S_, .f32⟩
  | .hbm, ⟨37, _⟩ => ⟨S1x2048x8x1536, .f32⟩
  | .hbm, ⟨38, _⟩ => ⟨S1x2048x8x1536, .f32⟩
  | .hbm, ⟨39, _⟩ => ⟨S1x2048x8x1536, .f32⟩
  | .hbm, ⟨40, _⟩ => ⟨S_, .f32⟩
  | .hbm, ⟨41, _⟩ => ⟨S1x2048x8x1536, .f32⟩
  | .hbm, ⟨42, _⟩ => ⟨S1x2048x8x1536, .f32⟩
  | .hbm, ⟨43, _⟩ => ⟨S1x2048x8x1536, .f32⟩
  | .hbm, ⟨44, _⟩ => ⟨S_, .f32⟩
  | .hbm, ⟨45, _⟩ => ⟨S1x2048x8x1536, .f32⟩
  | .hbm, ⟨46, _⟩ => ⟨S1x2048x8x1536, .f32⟩
  | .hbm, ⟨47, _⟩ => ⟨S_, .f32⟩
  | .hbm, ⟨48, _⟩ => ⟨S1x2048x8x1536, .f32⟩
  | .hbm, ⟨49, _⟩ => ⟨S1x2048x8x1536, .f32⟩
  | .hbm, ⟨50, _⟩ => ⟨S1x2048x8x1536, .f32⟩
  | .hbm, ⟨51, _⟩ => ⟨S8x768x1x2048, .f32⟩
  | .hbm, ⟨52, _⟩ => ⟨S1x2048x8x768, .f32⟩
  | .hbm, ⟨53, _⟩ => ⟨S1x1x8x768, .f32⟩
  | .hbm, ⟨54, _⟩ => ⟨S1x2048x8x768, .f32⟩
  | .hbm, ⟨55, _⟩ => ⟨S1x2048x8x768, .f32⟩
  | .hbm, ⟨56, _⟩ => ⟨S1x2048x8x1, .f32⟩
  | .hbm, ⟨57, _⟩ => ⟨S1x2048x8x768, .f32⟩
  | .hbm, ⟨58, _⟩ => ⟨S1x2048x8x768, .f32⟩
  | .hbm, ⟨59, _⟩ => ⟨S_, .f32⟩
  | .hbm, ⟨60, _⟩ => ⟨S1x2048x768, .f32⟩
  | .hbm, ⟨61, _⟩ => ⟨S1x2048x1536, .f32⟩
  | .hbm, ⟨62, _⟩ => ⟨S1x1x1536, .f32⟩
  | .hbm, ⟨63, _⟩ => ⟨S1x2048x1536, .f32⟩
  | .hbm, ⟨64, _⟩ => ⟨S1x2048x1536, .f32⟩
  | .hbm, ⟨65, _⟩ => ⟨S1x2048x1536, .f32⟩
  | .hbm, ⟨66, _⟩ => ⟨S1x2048x1536, .f32⟩
  | .hbm, ⟨67, _⟩ => ⟨S_, .f32⟩
  | .hbm, ⟨68, _⟩ => ⟨S1x2048x1536, .f32⟩
  | .hbm, ⟨69, _⟩ => ⟨S1x2048x1536, .f32⟩
  | .hbm, ⟨70, _⟩ => ⟨S1x2048x1536, .f32⟩
  | .hbm, ⟨71, _⟩ => ⟨S_, .f32⟩
  | .hbm, ⟨72, _⟩ => ⟨S1x2048x1536, .f32⟩
  | .hbm, ⟨73, _⟩ => ⟨S1x2048x1536, .f32⟩
  | .hbm, ⟨74, _⟩ => ⟨S1x2048x1536, .f32⟩
  | .hbm, ⟨75, _⟩ => ⟨S_, .f32⟩
  | .hbm, ⟨76, _⟩ => ⟨S1x2048x1536, .f32⟩
  | .hbm, ⟨77, _⟩ => ⟨S1x2048x1536, .f32⟩
  | .hbm, ⟨78, _⟩ => ⟨S_, .f32⟩
  | .hbm, ⟨79, _⟩ => ⟨S1x2048x1536, .f32⟩
  | .hbm, ⟨80, _⟩ => ⟨S1x2048x1536, .f32⟩
  | .hbm, ⟨81, _⟩ => ⟨S1x2048x1536, .f32⟩
  | .hbm, ⟨82, _⟩ => ⟨S1x2048x768, .f32⟩
  | .hbm, ⟨83, _⟩ => ⟨S1x1x768, .f32⟩
  | .hbm, ⟨84, _⟩ => ⟨S1x2048x768, .f32⟩
  | .hbm, ⟨85, _⟩ => ⟨S1x2048x768, .f32⟩
  | .hbm, ⟨86, _⟩ => ⟨S1x2048x768, .f32⟩
  | .hbm, ⟨87, _⟩ => ⟨S2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Proof.Mix.lean ====
/-
  The mathematics of one row of the layer, over the extended reals and free of any program: the tanh form of the gelu,
  a row's router scores, their softmax, one feed-forward network, and the law that lets a nonnegative real weight move
  out of a network's second product.
-/
module

public import Idealize.ShloMosaic.PureOps.Ideal.Laws
public import Idealize.ShloMosaic.Lib.ValueIdx

@[expose] public section

noncomputable section

open Idealize.ShloMosaic

namespace Cert.Mix

/-- The tanh form of the gelu, with the two constants by their values. -/
def gelu (h : EReal) : EReal :=
  h * (((1 / 2 : ℝ) : EReal) * (1 + Ideal.tanh (((6693141 / 8388608 : ℝ) : EReal)
    * (h + ((12003091 / 268435456 : ℝ) : EReal) * (h * (h * h))))))

/-- The same with the cube associated to the left. -/
theorem gelu_cube (h : EReal) :
    gelu h = h * (((1 / 2 : ℝ) : EReal) * (1 + Ideal.tanh (((6693141 / 8388608 : ℝ) : EReal)
      * (h + ((12003091 / 268435456 : ℝ) : EReal) * ((h * h) * h))))) := by
  unfold gelu
  rw [mul_comm (h * h) h]

/-- A row's router scores: the row against each column of the router's weights. -/
def scores (x : Fin 768 → EReal) (w : Fin 768 → Fin 8 → EReal) (j : Fin 8) : EReal := ∑ k, x k * w k j

/-- The largest score, as both programs fold it: from minus infinity, and once more against minus infinity. -/
def peak (s : Fin 8 → EReal) : EReal := max ⊥ (Finset.univ.fold max ⊥ s)

/-- The softmax of the scores: exponentials of the distances to the largest score over their sum. -/
def weight (s : Fin 8 → EReal) (j : Fin 8) : EReal :=
  Ideal.div (Ideal.exp (s j - peak s)) (∑ l, Ideal.exp (s l - peak s))

/-- One hidden unit of a network at a row. -/
def hid (x : Fin 768 → EReal) (w1 : Fin 768 → Fin 1536 → EReal) (f : Fin 1536) : EReal := ∑ k, x k * w1 k f

/-- One feed-forward network at a row: the gelu of its hidden units against its second weights. -/
def ffn (x : Fin 768 → EReal) (w1 : Fin 768 → Fin 1536 → EReal) (w2 : Fin 1536 → Fin 768 → EReal) (d : Fin 768) : EReal :=
  ∑ f, gelu (hid x w1 f) * w2 f d

/-- The same network with a weight `g` multiplied into every hidden unit before the second product. -/
def gated (x : Fin 768 → EReal) (g : EReal) (w1 : Fin 768 → Fin 1536 → EReal) (w2 : Fin 1536 → Fin 768 → EReal)
    (d : Fin 768) : EReal :=
  ∑ f, (gelu (hid x w1 f) * g) * w2 f d

/-- An extended real that is neither infinity is a real number. -/
def Finite (x : EReal) : Prop := ∃ r : ℝ, x = (r : EReal)

theorem finite_mul {x y : EReal} (hx : Finite x) (hy : Finite y) : Finite (x * y) := by
  obtain ⟨a, rfl⟩ := hx
  obtain ⟨b, rfl⟩ := hy
  exact ⟨a * b, (EReal.coe_mul a b).symm⟩

theorem finite_sum {ι : Type} (s : Finset ι) (f : ι → EReal) (h : ∀ i, Finite (f i)) : Finite (∑ i ∈ s, f i) := by
  choose r hr using h
  refine ⟨∑ i ∈ s, r i, ?_⟩
  simp only [hr]
  induction s using Finset.cons_induction with
  | empty => simp
  | cons a s ha ih => rw [Finset.sum_cons, Finset.sum_cons, ih, EReal.coe_add]

/-- Finite rows against finite router weights give finite scores. -/
theorem finite_scores (x : Fin 768 → EReal) (w : Fin 768 → Fin 8 → EReal) (hx : ∀ k, Finite (x k))
    (hw : ∀ k j, Finite (w k j)) (j : Fin 8) : Finite (scores x w j) :=
  finite_sum _ _ fun k => finite_mul (hx k) (hw k j)

/-- The fold of `max` from minus infinity over a nonempty finite set of reals is a real. -/
theorem finite_fold {ι : Type} (s : Finset ι) (hs : s.Nonempty) (f : ι → EReal) (h : ∀ i, Finite (f i)) :
    Finite (s.fold max ⊥ f) := by
  induction hs using Finset.Nonempty.cons_induction with
  | singleton a => simpa using h a
  | cons a s ha hs ih =>
    rw [Finset.fold_cons]
    rcases max_choice (f a) (s.fold max ⊥ f) with e | e
    · rw [e]; exact h a
    · rw [e]; exact ih

theorem finite_peak (s : Fin 8 → EReal) (h : ∀ j, Finite (s j)) : Finite (peak s) := by
  unfold peak
  rw [max_eq_right bot_le]
  exact finite_fold _ Finset.univ_nonempty s h

/-- The softmax of finite scores is a nonnegative real. -/
theorem weight_real (s : Fin 8 → EReal) (h : ∀ j, Finite (s j)) (j : Fin 8) :
    ∃ g : ℝ, 0 ≤ g ∧ weight s j = (g : EReal) := by
  obtain ⟨p, hp⟩ := finite_peak s h
  choose r hr using h
  have he : ∀ l, Ideal.exp (s l - peak s) = ((Real.exp (r l - p) : ℝ) : EReal) := fun l => by
    rw [hr, hp, ← EReal.coe_sub, Ideal.exp_coe]
  have hsum : ∑ l, Ideal.exp (s l - peak s) = ((∑ l, Real.exp (r l - p) : ℝ) : EReal) := by
    simp only [he]
    induction (Finset.univ : Finset (Fin 8)) using Finset.cons_induction with
    | empty => simp
    | cons a s ha ih => rw [Finset.sum_cons, Finset.sum_cons, ih, EReal.coe_add]
  have hpos : 0 < ∑ l, Real.exp (r l - p) :=
    Finset.sum_pos (fun l _ => Real.exp_pos _) Finset.univ_nonempty
  refine ⟨Real.exp (r j - p) * (1 / ∑ l, Real.exp (r l - p)), by positivity, ?_⟩
  unfold weight
  rw [hsum, he, Ideal.div_coe hpos.ne', EReal.coe_mul]

/-- A nonnegative real leaves a sum of extended reals as a common factor. -/
theorem sum_mul_real {ι : Type} (s : Finset ι) (f : ι → EReal) (g : ℝ) (hg : 0 ≤ g) :
    ∑ i ∈ s, f i * (g : EReal) = (∑ i ∈ s, f i) * (g : EReal) := by
  induction s using Finset.cons_induction with
  | empty => simp
  | cons a s ha ih =>
    rw [Finset.sum_cons, Finset.sum_cons, ih,
      EReal.right_distrib_of_nonneg_of_ne_top (EReal.coe_nonneg.mpr hg) (EReal.coe_ne_top g)]

/-- So a network weighted inside its second product is the network's result times the weight. -/
theorem gated_eq (x : Fin 768 → EReal) (g : ℝ) (hg : 0 ≤ g) (w1 : Fin 768 → Fin 1536 → EReal)
    (w2 : Fin 1536 → Fin 768 → EReal) (d : Fin 768) :
    gated x (g : EReal) w1 w2 d = ffn x w1 w2 d * (g : EReal) := by
  unfold gated ffn
  rw [← sum_mul_real _ _ g hg]
  exact Finset.sum_congr rfl fun f _ => mul_right_comm _ _ _

/-- What the layer computes at row `x` of the inputs and row `u` of the embeddings, column `d`: the shared network plus
    the eight routed ones, each multiplied by the row's softmax weight for it. -/
def layer (x u : Fin 768 → EReal) (wr : Fin 768 → Fin 8 → EReal) (w1 : Fin 8 → Fin 768 → Fin 1536 → EReal)
    (w2 : Fin 8 → Fin 1536 → Fin 768 → EReal) (s1 : Fin 768 → Fin 1536 → EReal) (s2 : Fin 1536 → Fin 768 → EReal)
    (d : Fin 768) : EReal :=
  ffn x s1 s2 d + ∑ e, ffn u (w1 e) (w2 e) d * weight (scores x wr) e

/-- The same with each weight inside its network's second product, as the kernel multiplies: equal when the inputs and
    the router's weights are finite. -/
theorem layer_gated (x u : Fin 768 → EReal) (wr : Fin 768 → Fin 8 → EReal) (w1 : Fin 8 → Fin 768 → Fin 1536 → EReal)
    (w2 : Fin 8 → Fin 1536 → Fin 768 → EReal) (s1 : Fin 768 → Fin 1536 → EReal) (s2 : Fin 1536 → Fin 768 → EReal)
    (d : Fin 768) (hx : ∀ k, Finite (x k)) (hw : ∀ k j, Finite (wr k j)) :
    ffn x s1 s2 d + ∑ e, gated u (weight (scores x wr) e) (w1 e) (w2 e) d = layer x u wr w1 w2 s1 s2 d := by
  unfold layer
  congr 1
  refine Finset.sum_congr rfl fun e _ => ?_
  obtain ⟨g, hg, e'⟩ := weight_real (scores x wr) (finite_scores x wr hx hw) e
  rw [e', gated_eq u g hg]

end Cert.Mix

end
-- ==== Proof.Consts.lean ====
/-
  The values of the literal and of the named constants at the extended reals.
-/
module

public import proofs.«01_k».proof.KernelIdeal
public import Idealize.ShloMosaic.PureOps.Ideal.Laws

@[expose] public section

noncomputable section

open Idealize.ShloMosaic

namespace Cert.Consts

theorem one_bf16 : Ideal.ofBits .bf16 0x3F80#16 = 1 := by
  simp [Ideal.ofBits, Ideal.ieee, -EReal.coe_mul]; norm_num

theorem half_bf16 : Ideal.ofBits .bf16 0x3F00#16 = ((1 / 2 : ℝ) : EReal) := by
  simp [Ideal.ofBits, Ideal.ieee, -EReal.coe_mul]; norm_num

theorem one_f32 : Ideal.ofBits .f32 0x3F800000#32 = 1 := by
  simp [Ideal.ofBits, Ideal.ieee, -EReal.coe_mul]; norm_num

theorem half_f32 : Ideal.ofBits .f32 0x3F000000#32 = ((1 / 2 : ℝ) : EReal) := by
  simp [Ideal.ofBits, Ideal.ieee, -EReal.coe_mul]; norm_num

theorem bot_f32 : Ideal.ofBits .f32 0xFF800000#32 = ⊥ := by
  simp [Ideal.ofBits, Ideal.ieee, -EReal.coe_mul]

theorem top_f32 : Ideal.ofBits .f32 0x7F800000#32 = ⊤ := by
  simp [Ideal.ofBits, Ideal.ieee, -EReal.coe_mul]

theorem cubic_f32 : Ideal.ofBits .f32 0x3D372713#32 = ((12003091 / 268435456 : ℝ) : EReal) := by
  simp [Ideal.ofBits, Ideal.ieee, -EReal.coe_mul]; norm_num

theorem root_f32 : Ideal.ofBits .f32 0x3F4C422A#32 = ((6693141 / 8388608 : ℝ) : EReal) := by
  simp [Ideal.ofBits, Ideal.ieee, -EReal.coe_mul]; norm_num

theorem cubic_named : (Named.named Cert.KernelIdeal.κ "cubic" 0x3D37#16 : Ideal .bf16) = ((12003091 / 268435456 : ℝ) : EReal) :=
  IdealRules.named_const.ideal_named_scalar _ _ _ _ rfl

theorem root_named : (Named.named Cert.KernelIdeal.κ "root" 0x3F4C#16 : Ideal .bf16) = ((6693141 / 8388608 : ℝ) : EReal) :=
  IdealRules.named_const.ideal_named_scalar _ _ _ _ rfl

end Cert.Consts

end
-- ==== Proof.Block.lean ====
/-
  The kernel body's pure values read at an index, over arbitrary blocks: the softmax block, the shared network's block,
  and what one grid point adds.
-/
module

public import proofs.«01_k».proof.Proof.Gen.KernelIdeal.Skeleton
public import proofs.«01_k».proof.Proof.Mix
public import proofs.«01_k».proof.Proof.Consts
public import Idealize.ShloMosaic.Lib.Pointwise

@[expose] public section

set_option maxRecDepth 16384

noncomputable section

open Idealize.ShloMosaic Cert.KernelIdeal Cert.KernelIdeal.Gen Cert.Mix

namespace Cert.Block

/-- The hidden units of a routed network, at a row of the block. -/
theorem pay8_apply (v16 : Vec Ideal S1024x768 .f32) (v30 : Vec Ideal S1x768x1536 .f32) (r : Fin 1024) (f : Fin 1536) :
    k0_pay8 v16 v30 (ix2 r f) = hid (fun k => v16 (ix2 r k)) (fun k f => v30 (ix3 0 k f)) f := by
  unfold k0_pay8 hid
  pointwise

/-- Their cubes. -/
theorem pay9_apply (v16 : Vec Ideal S1024x768 .f32) (v30 : Vec Ideal S1x768x1536 .f32) (r : Fin 1024) (f : Fin 1536) :
    k0_pay9 v16 v30 (ix2 r f) = k0_pay8 v16 v30 (ix2 r f) * (k0_pay8 v16 v30 (ix2 r f) * k0_pay8 v16 v30 (ix2 r f)) := by
  unfold k0_pay9
  pointwise

/-- The block of softmax weights, at a row and a network. -/
theorem pay3_apply (v58 : Vec Ideal S1024x768 .f32) (v61 : Vec Ideal S768x8 .f32) (r : Fin 1024) (j : Fin 8) :
    k0_pay3 v58 v61 (ix2 r j) = weight (scores (fun k => v58 (ix2 r k)) (fun k j => v61 (ix2 k j))) j := by
  unfold k0_pay3 k0_pay2 weight peak scores
  pointwise [Consts.bot_f32]

/-- The gelu of the shared network's hidden units. -/
theorem pay4_apply (v58 : Vec Ideal S1024x768 .f32) (v78 : Vec Ideal S768x1536 .f32) (r : Fin 1024) (f : Fin 1536) :
    k0_pay4 v58 v78 (ix2 r f) = gelu (hid (fun k => v58 (ix2 r k)) (fun k f => v78 (ix2 k f)) f) := by
  unfold k0_pay4 k0_pay2 gelu hid
  pointwise [Consts.cubic_named, Consts.root_named, Consts.one_bf16, Consts.half_bf16]

/-- The shared network's result. -/
theorem pay6_apply (v58 : Vec Ideal S1024x768 .f32) (v78 : Vec Ideal S768x1536 .f32) (v95 : Vec Ideal S1536x768 .f32)
    (r : Fin 1024) (d : Fin 768) :
    k0_pay6 (k0_pay4 v58 v78) (k0_pay5 v95) (constant S1024x768 .f32 0x00000000#32) (ix2 r d)
      = ffn (fun k => v58 (ix2 r k)) (fun k f => v78 (ix2 k f)) (fun f d => v95 (ix2 f d)) d := by
  unfold k0_pay6 k0_pay5 ffn
  pointwise [pay4_apply]

/-- What one grid point adds: a routed network's result, its gate inside the second product. -/
theorem pay1_apply (v29 : FVec Ideal S1024x1 .bf16) (v16 : Vec Ideal S1024x768 .f32) (v30 : Vec Ideal S1x768x1536 .f32)
    (v50 : Vec Ideal S1x1536x768 .f32) (v54 : Vec Ideal S1024x768 .f32) (r : Fin 1024) (d : Fin 768) :
    k0_pay1 v29 (k0_pay8 v16 v30) (k0_pay9 v16 v30) (Named.named κ "cubic" 0x3D37#16) v50 v54 (ix2 r d)
      = v54 (ix2 r d) + gated (fun k => v16 (ix2 r k)) (v29 (ix2 r 0)) (fun k f => v30 (ix3 0 k f))
          (fun f d => v50 (ix3 0 f d)) d := by
  unfold k0_pay1 gated gelu
  pointwise [pay9_apply, pay8_apply, Consts.cubic_named, Consts.root_named, Consts.one_bf16, Consts.half_bf16]

/-- The network a grid point runs: its second coordinate, counted downwards in the odd row block. -/
def expert (i : grid0.Coords) : ℕ := if (i 0).val % 2 = 1 then 7 - (i 1).val else (i 1).val

/-- The word a lane of the kernel's one-hot row holds, over the grid coordinates `a`, `b` and the lane `x`. -/
def lane (a b x : ℕ) : BitVec 32 :=
  let v4 : BitVec 32 := Scalar.select (Scalar.cmpi .eq 2#32 0#32) 1#32 2#32
  let v5 : BitVec 32 := Scalar.remsi (BitVec.ofNat 32 a) v4
  let v10 : BitVec 1 := Scalar.andi (Scalar.xori (Scalar.cmpi .slt v5 0#32) (Scalar.cmpi .slt v4 0#32)) (Scalar.cmpi .ne v5 0#32)
  let v12 : BitVec 32 := Scalar.select v10 (Scalar.addi v5 v4) v5
  let v15 : BitVec 32 := Scalar.select (Scalar.cmpi .eq v12 1#32) (Scalar.subi 7#32 (BitVec.ofNat 32 b)) (BitVec.ofNat 32 b)
  BitVec.setWidth 32 (IntOp.cmpi .eq (BitVec.ofNat 32 x) v15)

/-- It is one at the point's network and zero elsewhere. -/
theorem lane_eq : ∀ (a : Fin 2) (b x : Fin 8),
    lane a.val b.val x.val = if x.val = (if a.val % 2 = 1 then 7 - b.val else b.val) then 1#32 else 0#32 := by
  decide +kernel

/-- The same at a grid point's coordinates. -/
theorem lane_at (i : grid0.Coords) (x : Fin 8) :
    lane (i 0).val (i 1).val x.val = if x.val = expert i then 1#32 else 0#32 :=
  lane_eq ⟨(i 0).val, (i 0).isLt⟩ ⟨(i 1).val, (i 1).isLt⟩ x

theorem word_one : (FloatOps.sitofp .f32 1#32 : Ideal .f32) = (1 : EReal) := by
  show ((((1#32 : BitVec 32).toInt : ℤ) : ℝ) : EReal) = 1
  simp

theorem word_zero : (FloatOps.sitofp .f32 0#32 : Ideal .f32) = (0 : EReal) := by
  show ((((0#32 : BitVec 32).toInt : ℤ) : ℝ) : EReal) = 0
  simp

/-- A row's gate: the sum of the one-hot row times the softmax weights is the weight of the point's network. -/
theorem pay7_apply (i : grid0.Coords) (v22 : Vec Ideal S1024x8 .f32) (r : Fin 1024) (j : Fin 8) (hj : j.val = expert i) :
    k0_pay7 i v22 (ix2 r 0) = v22 (ix2 r j) := by
  unfold k0_pay7
  pointwise
  refine (Finset.sum_congr rfl fun x _ => congrArg (fun w : BitVec 32 => v22 (ix2 r x) * (FloatOps.sitofp .f32 w : Ideal .f32))
    (lane_at i x)).trans ?_
  rw [Finset.sum_eq_single j]
  · rw [if_pos hj, word_one]
    exact mul_one (v22 (ix2 r j) : EReal)
  · intro x _ hx
    rw [if_neg (fun h => hx (Fin.ext (h.trans hj.symm))), word_zero]
    exact mul_zero (v22 (ix2 r x) : EReal)
  · intro h
    exact absurd (Finset.mem_univ _) h

end Cert.Block

end
-- ==== Proof.Points.lean ====
/-
  The kernel's blocks at each grid point as parts of its arguments, and what the two carried buffers hold after each
  point of a row block.
-/
module

public import proofs.«01_k».proof.Proof.Gen.KernelIdeal.Value
public import proofs.«01_k».proof.Proof.Block
public import Idealize.ShloMosaic.Lib.Pipeline.ValueKit
public import Idealize.ShloMosaic.Lib.Claim

@[expose] public section

set_option maxRecDepth 16384

noncomputable section

open Idealize.ShloMosaic Idealize.ShloMosaic.TcCoe Cert.KernelIdeal Cert.KernelIdeal.Gen Cert.Mix Cert.Block

namespace Cert.Points

variable (m : (ℓ : Loc nD τ sig) → Buf (Elt Ideal) ℓ) (c : Dev nD)

/-- The inputs' rows, the embeddings' rows and the six weight arrays, read off the argument arrays. -/
def X (r : Fin 2048) (k : Fin 768) : EReal := m ((c : Thread nD τ).loc main_arg0) (ix3 0 r k)
def U (r : Fin 2048) (k : Fin 768) : EReal := m ((c : Thread nD τ).loc main_arg1) (ix3 0 r k)
def Wr (k : Fin 768) (j : Fin 8) : EReal := m ((c : Thread nD τ).loc main_arg2) (ix2 k j)
def W1 (e : Fin 8) (k : Fin 768) (f : Fin 1536) : EReal := m ((c : Thread nD τ).loc main_arg4) (ix3 e k f)
def W2 (e : Fin 8) (f : Fin 1536) (d : Fin 768) : EReal := m ((c : Thread nD τ).loc main_arg6) (ix3 e f d)
def S1 (k : Fin 768) (f : Fin 1536) : EReal := m ((c : Thread nD τ).loc main_arg8) (ix2 k f)
def S2 (f : Fin 1536) (d : Fin 768) : EReal := m ((c : Thread nD τ).loc main_arg10) (ix2 f d)

/-- Row `r` of row block `i`. -/
def row (i : Fin 2) (r : Fin 1024) : Fin 2048 := ⟨1024 * i.val + r.val, by omega⟩

/-- The network that point `e` of row block `i` runs. -/
def who (i : Fin 2) (e : Fin 8) : Fin 8 := if i.val % 2 = 1 then ⟨7 - e.val, by omega⟩ else e

/-- The grid point of row block `i`, place `e`. -/
def pt (i : Fin 2) (e : Fin 8) : Fin cfg0.N := ⟨8 * i.val + e.val, by rw [show cfg0.N = 16 from N_0]; omega⟩

theorem who_expert : ∀ (i : Fin 2) (e : Fin 8), (who i e).val = expert (grid0.coords (pt i e)) := by decide +kernel

theorem idx0 : ∀ (i : Fin 2) (e : Fin 8), win0_0.index (pt i e) = ![i.val, 0] := by decide +kernel
theorem idx1 : ∀ (i : Fin 2) (e : Fin 8), win0_1.index (pt i e) = ![i.val, 0] := by decide +kernel
theorem idx2 : ∀ (i : Fin 2) (e : Fin 8), win0_2.index (pt i e) = ![0, 0] := by decide +kernel
theorem idx3 : ∀ (i : Fin 2) (e : Fin 8), win0_3.index (pt i e) = ![(who i e).val, 0, 0] := by decide +kernel
theorem idx4 : ∀ (i : Fin 2) (e : Fin 8), win0_4.index (pt i e) = ![(who i e).val, 0, 0] := by decide +kernel
theorem idx5 : ∀ (i : Fin 2) (e : Fin 8), win0_5.index (pt i e) = ![0, 0] := by decide +kernel
theorem idx6 : ∀ (i : Fin 2) (e : Fin 8), win0_6.index (pt i e) = ![0, 0] := by decide +kernel

/-- The reshaped argument the region reads, at an index. -/
theorem V0 (a : Fin 2048) (k : Fin 768) : V m c main_v0 (ix2 a k) = X m c a k := by
  unfold X
  entry_read
  show shapeCast S2048x768 _ _ (ix2 a k) = _
  rw [shapeCast_dropUnit_apply ![2048, 768]]
  exact congrArg _ (funext fun b => by fin_cases b <;> rfl)

theorem blk0 (i : Fin 2) (e : Fin 8) (r : Fin 1024) (k : Fin 768) : iblk m c 0 (pt i e) (ix2 r k) = X m c (row i r) k := by
  rw [← V0]
  unfold row
  show V m c main_v0 (((cfg0.win 0).blk (pt i e)).view.emb (ix2 r k)) = _
  blk_ext [idx0 i e]

/-- The reshaped argument the region reads, at an index. -/
theorem V1 (a : Fin 2048) (k : Fin 768) : V m c main_v1 (ix2 a k) = U m c a k := by
  unfold U
  entry_read
  show shapeCast S2048x768 _ _ (ix2 a k) = _
  rw [shapeCast_dropUnit_apply ![2048, 768]]
  exact congrArg _ (funext fun b => by fin_cases b <;> rfl)

theorem blk1 (i : Fin 2) (e : Fin 8) (r : Fin 1024) (k : Fin 768) : iblk m c 1 (pt i e) (ix2 r k) = U m c (row i r) k := by
  rw [← V1]
  unfold row
  show V m c main_v1 (((cfg0.win 1).blk (pt i e)).view.emb (ix2 r k)) = _
  blk_ext [idx1 i e]

theorem blk2 (i : Fin 2) (e : Fin 8) (k : Fin 768) (j : Fin 8) : iblk m c 2 (pt i e) (ix2 k j) = Wr m c k j := by
  unfold Wr
  blk_ext [iblk, V, idx2 i e]

theorem blk3 (i : Fin 2) (e : Fin 8) (k : Fin 768) (f : Fin 1536) : iblk m c 3 (pt i e) (ix3 0 k f) = W1 m c (who i e) k f := by
  unfold W1
  blk_ext [iblk, V, idx3 i e]

theorem blk4 (i : Fin 2) (e : Fin 8) (f : Fin 1536) (d : Fin 768) : iblk m c 4 (pt i e) (ix3 0 f d) = W2 m c (who i e) f d := by
  unfold W2
  blk_ext [iblk, V, idx4 i e]

theorem blk5 (i : Fin 2) (e : Fin 8) (k : Fin 768) (f : Fin 1536) : iblk m c 5 (pt i e) (ix2 k f) = S1 m c k f := by
  unfold S1
  blk_ext [iblk, V, idx5 i e]

theorem blk6 (i : Fin 2) (e : Fin 8) (f : Fin 1536) (d : Fin 768) : iblk m c 6 (pt i e) (ix2 f d) = S2 m c f d := by
  unfold S2
  blk_ext [iblk, V, idx6 i e]

end Cert.Points

end
-- ==== Proof.Carried.lean ====
/-
  What the carried softmax weights and the output block hold after each grid point of a row block, by induction on the
  point's place in the block; and so what the kernel's result array ends holding.
-/
module

public import proofs.«01_k».proof.Proof.Points

@[expose] public section

set_option maxRecDepth 16384

noncomputable section

open Idealize.ShloMosaic Idealize.ShloMosaic.TcCoe Cert.KernelIdeal Cert.KernelIdeal.Gen Cert.Mix Cert.Block Cert.Points

namespace Cert.Carried

variable (m : (ℓ : Loc nD τ sig) → Buf (Elt Ideal) ℓ) (c : Dev nD)

/-- The softmax weights of row `r`. -/
def gate (r : Fin 2048) (j : Fin 8) : EReal := weight (scores (X m c r) (Wr m c)) j

/-- The shared network's result at row `r`, column `d`. -/
def shared (r : Fin 2048) (d : Fin 768) : EReal := ffn (X m c r) (S1 m c) (S2 m c) d

/-- Network `e`'s result at row `r`, column `d`, its weight inside its second product. -/
def routed (e : Fin 8) (r : Fin 2048) (d : Fin 768) : EReal := gated (U m c r) (gate m c r e) (W1 m c e) (W2 m c e) d

/-- The first point of a row block leaves the softmax weights in the scratch. -/
theorem first_weights (t : Fin cfg0.N) (h : t.val % 8 = 0) :
    (outsAt0 m c t.val t.isLt).2 = k0_pay3 (iblk m c 0 t) (iblk m c 2 t) := by
  rw [outsAt0_A m c t h]
  frame_out

/-- It leaves the shared network's block plus the first routed one in the output. -/
theorem first_block (t : Fin cfg0.N) (h : t.val % 8 = 0) :
    (outsAt0 m c t.val t.isLt).1
      = k0_pay1 (k0_pay7 (grid0.coords t) (k0_pay3 (iblk m c 0 t) (iblk m c 2 t)))
          (k0_pay8 (iblk m c 1 t) (iblk m c 3 t)) (k0_pay9 (iblk m c 1 t) (iblk m c 3 t)) (Named.named κ "cubic" 0x3D37#16)
          (iblk m c 4 t) (k0_pay6 (k0_pay4 (iblk m c 0 t) (iblk m c 5 t)) (k0_pay5 (iblk m c 6 t))
            (constant S1024x768 .f32 0x00000000#32)) := by
  rw [outsAt0_A m c t h]
  frame_out

/-- A later point leaves the scratch alone. -/
theorem later_weights (t : Fin cfg0.N) (h : ¬t.val % 8 = 0) :
    (outsAt0 m c t.val t.isLt).2 = (outsAt0 m c (t.val - 1) (by omega)).2 := by
  rw [outsAt0_B m c t h]
  rfl

/-- It adds one routed network's block to the output. -/
theorem later_block (t : Fin cfg0.N) (h : ¬t.val % 8 = 0) :
    (outsAt0 m c t.val t.isLt).1
      = k0_pay1 (k0_pay7 (grid0.coords t) (outsAt0 m c (t.val - 1) (by omega)).2)
          (k0_pay8 (iblk m c 1 t) (iblk m c 3 t)) (k0_pay9 (iblk m c 1 t) (iblk m c 3 t)) (Named.named κ "cubic" 0x3D37#16)
          (iblk m c 4 t) (outsAt0 m c (t.val - 1) (by omega)).1 := by
  rw [outsAt0_B m c t h]
  frame_out
  exact congrArg (fun w => k0_pay1 (k0_pay7 (grid0.coords t) w) (k0_pay8 (iblk m c 1 t) (iblk m c 3 t))
    (k0_pay9 (iblk m c 1 t) (iblk m c 3 t)) (Named.named κ "cubic" 0x3D37#16) (iblk m c 4 t)
    (outsAt0 m c (t.val - 1) (by omega)).1) ((Memref.isWhole_whole cc0_scratch0).read_unread _)

/-- Contents after two equal points are equal. -/
theorem outs_congr {a b : ℕ} (h : a = b) (ha : a < cfg0.N) (hb : b < cfg0.N) : outsAt0 m c a ha = outsAt0 m c b hb := by
  subst h; rfl

theorem pt_first (i : Fin 2) (e : Fin 8) (h : e.val = 0) : (pt i e).val % 8 = 0 := by
  show (8 * i.val + e.val) % 8 = 0
  omega

theorem pt_later (i : Fin 2) (e : Fin 8) (h : e.val ≠ 0) : ¬(pt i e).val % 8 = 0 := by
  show ¬(8 * i.val + e.val) % 8 = 0
  omega

theorem pt_pred (i : Fin 2) (n : ℕ) (h : n + 1 < 8) : (pt i ⟨n + 1, h⟩).val - 1 = (pt i ⟨n, by omega⟩).val := by
  show 8 * i.val + (n + 1) - 1 = 8 * i.val + n
  omega

/-- The softmax block of a row block, at any of its points. -/
theorem gates (i : Fin 2) (e : Fin 8) (r : Fin 1024) (j : Fin 8) :
    k0_pay3 (iblk m c 0 (pt i e)) (iblk m c 2 (pt i e)) (ix2 r j) = gate m c (row i r) j := by
  refine (pay3_apply _ _ r j).trans ?_
  unfold gate
  rw [show (fun k => iblk m c 0 (pt i e) (ix2 r k)) = X m c (row i r) from funext fun k => blk0 m c i e r k,
    show (fun k j => iblk m c 2 (pt i e) (ix2 k j)) = Wr m c from funext fun k => funext fun j => blk2 m c i e k j]

/-- The shared network's block. -/
theorem shareds (i : Fin 2) (e : Fin 8) (r : Fin 1024) (d : Fin 768) :
    k0_pay6 (k0_pay4 (iblk m c 0 (pt i e)) (iblk m c 5 (pt i e))) (k0_pay5 (iblk m c 6 (pt i e)))
      (constant S1024x768 .f32 0x00000000#32) (ix2 r d) = shared m c (row i r) d := by
  refine (pay6_apply _ _ _ r d).trans ?_
  unfold shared
  rw [show (fun k => iblk m c 0 (pt i e) (ix2 r k)) = X m c (row i r) from funext fun k => blk0 m c i e r k,
    show (fun k f => iblk m c 5 (pt i e) (ix2 k f)) = S1 m c from funext fun k => funext fun f => blk5 m c i e k f,
    show (fun f d => iblk m c 6 (pt i e) (ix2 f d)) = S2 m c from funext fun f => funext fun d => blk6 m c i e f d]

/-- What a point adds, when the scratch it reads holds the softmax weights of its rows. -/
theorem adds (i : Fin 2) (e : Fin 8) (w : Vec Ideal S1024x8 .f32) (o : Vec Ideal S1024x768 .f32) (r : Fin 1024) (d : Fin 768)
    (hw : ∀ j, w (ix2 r j) = gate m c (row i r) j) :
    k0_pay1 (k0_pay7 (grid0.coords (pt i e)) w) (k0_pay8 (iblk m c 1 (pt i e)) (iblk m c 3 (pt i e)))
        (k0_pay9 (iblk m c 1 (pt i e)) (iblk m c 3 (pt i e))) (Named.named κ "cubic" 0x3D37#16) (iblk m c 4 (pt i e)) o (ix2 r d)
      = o (ix2 r d) + routed m c (who i e) (row i r) d := by
  refine (pay1_apply _ _ _ _ _ r d).trans ?_
  unfold routed
  rw [pay7_apply _ w r (who i e) (who_expert i e), hw,
    show (fun k => iblk m c 1 (pt i e) (ix2 r k)) = U m c (row i r) from funext fun k => blk1 m c i e r k,
    show (fun k f => iblk m c 3 (pt i e) (ix3 0 k f)) = W1 m c (who i e) from funext fun k => funext fun f => blk3 m c i e k f,
    show (fun f d => iblk m c 4 (pt i e) (ix3 0 f d)) = W2 m c (who i e) from funext fun f => funext fun d => blk4 m c i e f d]

/-- After every point of row block `i` the scratch holds the softmax weights of the block's rows. -/
theorem weights_at (i : Fin 2) (r : Fin 1024) (j : Fin 8) : ∀ (n : ℕ) (hn : n < 8),
    (outsAt0 m c (pt i ⟨n, hn⟩).val (pt i ⟨n, hn⟩).isLt).2 (ix2 r j) = gate m c (row i r) j
  | 0, hn => by
    rw [first_weights m c _ (pt_first i ⟨0, hn⟩ rfl)]
    exact gates m c i _ r j
  | n + 1, hn => by
    rw [later_weights m c _ (pt_later i ⟨n + 1, hn⟩ (Nat.succ_ne_zero n)), outs_congr m c (pt_pred i n hn) _ (pt i ⟨n, by omega⟩).isLt]
    exact weights_at i r j n (by omega)

/-- After place `n` of row block `i` the output block holds the shared network's result plus those of the networks run. -/
theorem block_at (i : Fin 2) (r : Fin 1024) (d : Fin 768) : ∀ (n : ℕ) (hn : n < 8),
    (outsAt0 m c (pt i ⟨n, hn⟩).val (pt i ⟨n, hn⟩).isLt).1 (ix2 r d)
      = shared m c (row i r) d + ∑ s : Fin (n + 1), routed m c (who i ⟨s.val, by omega⟩) (row i r) d
  | 0, hn => by
    rw [first_block m c _ (pt_first i ⟨0, hn⟩ rfl), adds m c i ⟨0, hn⟩ _ _ r d (gates m c i _ r), shareds]
    simp
  | n + 1, hn => by
    rw [later_block m c _ (pt_later i ⟨n + 1, hn⟩ (Nat.succ_ne_zero n)), outs_congr m c (pt_pred i n hn) _ (pt i ⟨n, by omega⟩).isLt,
      adds m c i ⟨n + 1, hn⟩ _ _ r d (fun j => weights_at m c i r j n (by omega)), block_at i r d n (by omega),
      add_assoc]
    exact congrArg (shared m c (row i r) d + ·)
      (Fin.sum_univ_castSucc fun s : Fin (n + 2) => routed m c (who i ⟨s.val, by omega⟩) (row i r) d).symm

theorem who_bijective : ∀ i : Fin 2, Function.Bijective (who i) := by decide +kernel

/-- After the last point of row block `i`: the shared network plus all eight routed ones. -/
theorem block_last (i : Fin 2) (r : Fin 1024) (d : Fin 768) :
    (outsAt0 m c (pt i 7).val (pt i 7).isLt).1 (ix2 r d)
      = shared m c (row i r) d + ∑ e, routed m c e (row i r) d := by
  rw [← (who_bijective i).sum_comp fun e => routed m c e (row i r) d]
  exact block_at m c i r d 7 (by omega)

/-- So the kernel's result array holds, at row `a` and column `d`, the shared network plus all eight routed ones. -/
theorem result_apply (a : Fin 2048) (d : Fin 768) :
    Cert.KernelIdeal.Value.G7 m c (ix2 a d) = shared m c a d + ∑ e, routed m c e a d := by
  obtain ⟨i, r, rfl⟩ : ∃ (i : Fin 2) (r : Fin 1024), a = row i r :=
    ⟨⟨a.val / 1024, by omega⟩, ⟨a.val % 1024, by omega⟩, Fin.ext (show a.val = 1024 * (a.val / 1024) + a.val % 1024 by omega)⟩
  rw [← block_last]
  have hp : Cert.KernelIdeal.Value.pt7Of (ix2 (row i r) d) = (pt i 7).val := by
    show 8 * (1 * ((1024 * i.val + r.val) / 1024 - 0) + 1 * (d.val / 768 - 0)) + 7 = 8 * i.val + 7
    omega
  have hl : Cert.KernelIdeal.Value.loc7Of (ix2 (row i r) d) = ix2 r d := by
    funext b
    refine Fin.ext ?_
    fin_cases b
    · show (1024 * i.val + r.val) % 1024 = r.val
      omega
    · show d.val % 768 = d.val
      omega
  unfold Cert.KernelIdeal.Value.G7
  rw [dif_pos (hp ▸ (pt i 7).isLt), hl, ← Cert.KernelIdeal.Value.outsAt0_sweep m c _ (hp ▸ (pt i 7).isLt),
    outs_congr m c hp _ (pt i 7).isLt]

end Cert.Carried

end
-- ==== Proof.RefValue.lean ====
/-
  The reference's result read at an index: the layer's mathematics, when the five biases are zero.
-/
module

public import proofs.«01_k».proof.Proof.Gen.ReferenceIdeal.Read
public import proofs.«01_k».proof.Proof.Mix
public import proofs.«01_k».proof.Proof.Consts
public import Idealize.ShloMosaic.Lib.Pointwise

@[expose] public section

set_option maxRecDepth 16384

noncomputable section

open Idealize.ShloMosaic Cert.ReferenceIdeal Cert.ReferenceIdeal.Gen Cert.ReferenceIdeal.Read Cert.Mix

namespace Cert.RefValue

abbrev A (S : Shape) : Type := FVec Ideal S .f32

variable (x0 x1 : A S1x2048x768) (x2 : A S768x8) (x3 : A S8) (x4 : A S8x768x1536) (x5 : A S8x1536) (x6 : A S8x1536x768)
  (x7 : A S8x768) (x8 : A S768x1536) (x9 : A S1536) (x10 : A S1536x768) (x11 : A S768)

/-- The router's scores. -/
theorem logit (h3 : ∀ j, x3 (ix1 j) = (0 : EReal)) (r : Fin 2048) (j : Fin 8) :
    val_main_v3 (F := Ideal) x0 x2 x3 (ix3 0 r j) = scores (fun k => x0 (ix3 0 r k)) (fun k j => x2 (ix2 k j)) j := by
  unfold val_main_v3 val_main_v2 val_main_v1 val_main_v0 scores
  pointwise
  rw [h3]
  exact add_zero _

/-- The largest score of a row. -/
theorem largest (h3 : ∀ j, x3 (ix1 j) = (0 : EReal)) (r : Fin 2048) :
    val_main_v6 (F := Ideal) x0 x2 x3 (ix2 0 r) = peak (scores (fun k => x0 (ix3 0 r k)) (fun k j => x2 (ix2 k j))) := by
  have e : (fun j => val_main_v3 (F := Ideal) x0 x2 x3 (ix3 0 r j)) = scores (fun k => x0 (ix3 0 r k)) (fun k j => x2 (ix2 k j)) :=
    funext fun j => logit x0 x2 x3 h3 r j
  unfold val_main_v6 val_main_v5 val_main_v4 val_main_cst val_main_cst_0 peak
  rw [← e]
  pointwise [Consts.bot_f32]

/-- The exponential of a score's distance to the largest. -/
theorem expo (h3 : ∀ j, x3 (ix1 j) = (0 : EReal)) (r : Fin 2048) (j : Fin 8) :
    val_main_v10 (F := Ideal) x0 x2 x3 (ix3 0 r j)
      = Ideal.exp (scores (fun k => x0 (ix3 0 r k)) (fun k j => x2 (ix2 k j)) j
          - peak (scores (fun k => x0 (ix3 0 r k)) (fun k j => x2 (ix2 k j)))) := by
  rw [← logit x0 x2 x3 h3, ← largest x0 x2 x3 h3]
  unfold val_main_v10 val_main_v9 val_main_v8 val_main_v7
  pointwise

/-- The softmax weights. -/
theorem probs (h3 : ∀ j, x3 (ix1 j) = (0 : EReal)) (r : Fin 2048) (j : Fin 8) :
    val_main_v14 (F := Ideal) x0 x2 x3 (ix3 0 r j) = weight (scores (fun k => x0 (ix3 0 r k)) (fun k j => x2 (ix2 k j))) j := by
  unfold weight
  simp only [← expo x0 x2 x3 h3]
  unfold val_main_v14 val_main_v13 val_main_v12 val_main_v11 val_main_cst_1
  pointwise

/-- A routed network's hidden units. -/
theorem inner (h5 : ∀ e f, x5 (ix2 e f) = (0 : EReal)) (r : Fin 2048) (e : Fin 8) (f : Fin 1536) :
    val_main_v18 (F := Ideal) x1 x4 x5 (ix4 0 r e f) = hid (fun k => x1 (ix3 0 r k)) (fun k f => x4 (ix3 e k f)) f := by
  unfold val_main_v18 val_main_v17 val_main_v16 val_main_v15 hid
  pointwise [h5]

/-- Their gelu. -/
theorem inner_gelu (h5 : ∀ e f, x5 (ix2 e f) = (0 : EReal)) (r : Fin 2048) (e : Fin 8) (f : Fin 1536) :
    val_main_v31 (F := Ideal) x1 x4 x5 (ix4 0 r e f)
      = gelu (hid (fun k => x1 (ix3 0 r k)) (fun k f => x4 (ix3 e k f)) f) := by
  rw [← inner x1 x4 x5 h5]
  rw [gelu_cube]
  unfold val_main_v31 val_main_v30 val_main_v29 val_main_v28 val_main_v27 val_main_v26 val_main_v25 val_main_v24 val_main_v23
    val_main_v22 val_main_v21 val_main_v20 val_main_v19 val_main_cst_2 val_main_cst_3 val_main_cst_4 val_main_cst_5
  pointwise [Consts.cubic_f32, Consts.root_f32, Consts.one_f32, Consts.half_f32]

/-- A routed network's result. -/
theorem routed (h5 : ∀ e f, x5 (ix2 e f) = (0 : EReal)) (h7 : ∀ e d, x7 (ix2 e d) = (0 : EReal)) (r : Fin 2048) (e : Fin 8)
    (d : Fin 768) :
    val_main_v36 (F := Ideal) x1 x4 x5 x6 x7 (ix4 0 r e d)
      = ffn (fun k => x1 (ix3 0 r k)) (fun k f => x4 (ix3 e k f)) (fun f d => x6 (ix3 e f d)) d := by
  unfold ffn
  simp only [← inner_gelu x1 x4 x5 h5]
  unfold val_main_v36 val_main_v35 val_main_v34 val_main_v33 val_main_v32
  pointwise [h7]
  exact Finset.sum_congr rfl fun f _ => mul_comm (x6 (ix3 e f d) : EReal) _

/-- The weighted sum of the routed networks. -/
theorem mixed (h3 : ∀ j, x3 (ix1 j) = (0 : EReal)) (h5 : ∀ e f, x5 (ix2 e f) = (0 : EReal))
    (h7 : ∀ e d, x7 (ix2 e d) = (0 : EReal)) (r : Fin 2048) (d : Fin 768) :
    val_main_v40 (F := Ideal) x0 x1 x2 x3 x4 x5 x6 x7 (ix3 0 r d)
      = ∑ e, ffn (fun k => x1 (ix3 0 r k)) (fun k f => x4 (ix3 e k f)) (fun f d => x6 (ix3 e f d)) d
          * weight (scores (fun k => x0 (ix3 0 r k)) (fun k j => x2 (ix2 k j))) e := by
  simp only [← routed x1 x4 x5 x6 x7 h5 h7, ← probs x0 x2 x3 h3]
  unfold val_main_v40 val_main_v39 val_main_v38 val_main_v37 val_main_cst_6
  pointwise

/-- The shared network's hidden units. -/
theorem outer (h9 : ∀ f, x9 (ix1 f) = (0 : EReal)) (r : Fin 2048) (f : Fin 1536) :
    val_main_v44 (F := Ideal) x0 x8 x9 (ix3 0 r f) = hid (fun k => x0 (ix3 0 r k)) (fun k f => x8 (ix2 k f)) f := by
  unfold val_main_v44 val_main_v43 val_main_v42 val_main_v41 hid
  pointwise [h9]

/-- Their gelu. -/
theorem outer_gelu (h9 : ∀ f, x9 (ix1 f) = (0 : EReal)) (r : Fin 2048) (f : Fin 1536) :
    val_main_v57 (F := Ideal) x0 x8 x9 (ix3 0 r f) = gelu (hid (fun k => x0 (ix3 0 r k)) (fun k f => x8 (ix2 k f)) f) := by
  rw [← outer x0 x8 x9 h9]
  rw [gelu_cube]
  unfold val_main_v57 val_main_v56 val_main_v55 val_main_v54 val_main_v53 val_main_v52 val_main_v51 val_main_v50 val_main_v49
    val_main_v48 val_main_v47 val_main_v46 val_main_v45 val_main_cst_7 val_main_cst_8 val_main_cst_9 val_main_cst_10
  pointwise [Consts.cubic_f32, Consts.root_f32, Consts.one_f32, Consts.half_f32]

/-- The shared network's result. -/
theorem shared (h9 : ∀ f, x9 (ix1 f) = (0 : EReal)) (h11 : ∀ d, x11 (ix1 d) = (0 : EReal)) (r : Fin 2048) (d : Fin 768) :
    val_main_v61 (F := Ideal) x0 x8 x9 x10 x11 (ix3 0 r d)
      = ffn (fun k => x0 (ix3 0 r k)) (fun k f => x8 (ix2 k f)) (fun f d => x10 (ix2 f d)) d := by
  unfold ffn
  simp only [← outer_gelu x0 x8 x9 h9]
  unfold val_main_v61 val_main_v60 val_main_v59 val_main_v58
  pointwise [h11]

/-- The reference's result at row `r` and column `d` is the layer's. -/
theorem result (h3 : ∀ j, x3 (ix1 j) = (0 : EReal)) (h5 : ∀ e f, x5 (ix2 e f) = (0 : EReal))
    (h7 : ∀ e d, x7 (ix2 e d) = (0 : EReal)) (h9 : ∀ f, x9 (ix1 f) = (0 : EReal)) (h11 : ∀ d, x11 (ix1 d) = (0 : EReal))
    (r : Fin 2048) (d : Fin 768) :
    val_main_v63 (F := Ideal) x0 x1 x2 x3 x4 x5 x6 x7 x8 x9 x10 x11 (ix2 r d)
      = layer (fun k => x0 (ix3 0 r k)) (fun k => x1 (ix3 0 r k)) (fun k j => x2 (ix2 k j)) (fun e k f => x4 (ix3 e k f))
          (fun e f d => x6 (ix3 e f d)) (fun k f => x8 (ix2 k f)) (fun f d => x10 (ix2 f d)) d := by
  unfold layer
  rw [← shared x0 x8 x9 x10 x11 h9 h11, ← mixed x0 x1 x2 x3 x4 x5 x6 x7 h3 h5 h7]
  unfold val_main_v63 val_main_v62
  pointwise

end Cert.RefValue

end
-- ==== Proof.Pre.lean ====
/-
  The precondition read as statements about the elements: every bias element is zero, every input element and every
  router weight is a real number.
-/
module

public import proofs.«01_k».proof.Defs
public import proofs.«01_k».proof.Proof.Gen.Pre_zero_biases_finite_router
public import proofs.«01_k».proof.Proof.Mix
public import proofs.«01_k».proof.Proof.Consts
public import Idealize.ShloMosaic.Lib.ReduceAll
public import Idealize.ShloMosaic.Lib.Pointwise

@[expose] public section

set_option maxRecDepth 16384

noncomputable section

open Idealize.ShloMosaic Cert.Pre_zero_biases_finite_router Cert.Mix

namespace Cert.PreFacts

/-- A comparison for equality with zero that comes out true. -/
theorem eq_zero_of_bit (x : EReal) (h : Ideal.cmp .oeq x (Ideal.ofBits .f32 0x00000000#32) = 1#1) : x = 0 := by
  rw [Ideal.ofBits_zero_f32] at h
  by_contra hx
  rw [show Ideal.cmp .oeq x 0 = 0#1 by simp [Ideal.cmp, hx]] at h
  exact absurd h (by decide)

/-- An absolute value below plus infinity. -/
theorem finite_of_bit (x : EReal) (h : Ideal.cmp .olt (max x (-x)) (Ideal.ofBits .f32 0x7F800000#32) = 1#1) : Finite x := by
  rw [Consts.top_f32] at h
  induction x using EReal.rec with
  | bot => rw [show Ideal.cmp .olt (max (⊥ : EReal) (-⊥)) ⊤ = 0#1 by simp [Ideal.cmp]] at h; exact absurd h (by decide)
  | coe r => exact ⟨r, rfl⟩
  | top => rw [show Ideal.cmp .olt (max (⊤ : EReal) (-⊤)) ⊤ = 0#1 by simp [Ideal.cmp]] at h; exact absurd h (by decide)

variable (x0 x1 : FVec Ideal S1x2048x768 .f32) (x2 : FVec Ideal S768x8 .f32) (x3 : FVec Ideal S8 .f32)
  (x4 : FVec Ideal S8x768x1536 .f32) (x5 : FVec Ideal S8x1536 .f32) (x6 : FVec Ideal S8x1536x768 .f32)
  (x7 : FVec Ideal S8x768 .f32) (x8 : FVec Ideal S768x1536 .f32) (x9 : FVec Ideal S1536 .f32)
  (x10 : FVec Ideal S1536x768 .f32) (x11 : FVec Ideal S768 .f32)

/-- What the precondition says of the elements. -/
structure Elements : Prop where
  b3 : ∀ j, x3 (ix1 j) = (0 : EReal)
  b5 : ∀ e f, x5 (ix2 e f) = (0 : EReal)
  b7 : ∀ e d, x7 (ix2 e d) = (0 : EReal)
  b9 : ∀ f, x9 (ix1 f) = (0 : EReal)
  b11 : ∀ d, x11 (ix1 d) = (0 : EReal)
  f0 : ∀ r k, Finite (x0 (ix3 0 r k))
  f2 : ∀ k j, Finite (x2 (ix2 k j))

instance : Subsingleton S_.Idx := ⟨fun a b => funext fun i => i.elim0⟩

theorem elements (h : fn (F := Ideal) x0 x1 x2 x3 x4 x5 x6 x7 x8 x9 x10 x11 = fun _ => 1#1) :
    Elements x0 x2 x3 x5 x7 x9 x11 := by
  have h' := congrFun h (Shape.Idx.first Gen.h_S_)
  dsimp only [fn, fn_part1] at h'
  simp only [andi_apply] at h'
  obtain ⟨h', e2⟩ := IntOp.andi_eq_one.1 h'
  obtain ⟨h', e0⟩ := IntOp.andi_eq_one.1 h'
  obtain ⟨h', e11⟩ := IntOp.andi_eq_one.1 h'
  obtain ⟨h', e9⟩ := IntOp.andi_eq_one.1 h'
  obtain ⟨h', e7⟩ := IntOp.andi_eq_one.1 h'
  obtain ⟨e3, e5⟩ := IntOp.andi_eq_one.1 h'
  exact
    { b3 := fun j => eq_zero_of_bit _ (Host.reduce_andi_all _ _ _ _ _ e3 (ix1 j))
      b5 := fun e f => eq_zero_of_bit _ (Host.reduce_andi_all _ _ _ _ _ e5 (ix2 e f))
      b7 := fun e d => eq_zero_of_bit _ (Host.reduce_andi_all _ _ _ _ _ e7 (ix2 e d))
      b9 := fun f => eq_zero_of_bit _ (Host.reduce_andi_all _ _ _ _ _ e9 (ix1 f))
      b11 := fun d => eq_zero_of_bit _ (Host.reduce_andi_all _ _ _ _ _ e11 (ix1 d))
      f0 := fun r k => finite_of_bit _ (Host.reduce_andi_all _ _ _ _ _ e0 (ix3 0 r k))
      f2 := fun k j => finite_of_bit _ (Host.reduce_andi_all _ _ _ _ _ e2 (ix2 k j)) }

end Cert.PreFacts

end
-- ==== Proof.Claims.lean ====
/-
  The value claim: from equal arguments, with zero biases and a finite router, the kernel's array and the reference's
  are equal element by element.
-/
module

public import proofs.«01_k».proof.Proof.Gen.ReferenceIdeal.Run
public import proofs.«01_k».proof.Proof.Carried
public import proofs.«01_k».proof.Proof.RefValue
public import proofs.«01_k».proof.Proof.Pre
public import Idealize.ShloMosaic.Lib.Quiescent

@[expose] public section

set_option maxRecDepth 16384

noncomputable section

open Idealize.ShloMosaic Idealize.SL.Sem Cert.Mix

namespace Cert.Claims

/-- The reference, at the ideal instance, leaves its arguments and every semaphore as they were. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The same under the precondition, which it does not need. -/
theorem frame_reference_pre : Cert.quiescent_ReferenceIdeal_pre_zero_biases_finite_router := fun m ρ _ =>
  frame_reference m ρ trivial

/-- An element of the kernel's array is the layer's value there. -/
theorem kernel_value (m : (ℓ : Loc Cert.KernelIdeal.nD Cert.KernelIdeal.τ Cert.KernelIdeal.sig) → Buf (Elt Ideal) ℓ)
    (hm : Cert.Pre_KernelIdeal_zero_biases_finite_router m) (c : Dev Cert.KernelIdeal.nD) (r : Fin 2048) (d : Fin 768) :
    Cert.KernelIdeal.Value.G7 m c (ix2 r d) =
      layer (Points.X m c r) (Points.U m c r) (Points.Wr m c) (Points.W1 m c) (Points.W2 m c) (Points.S1 m c)
        (Points.S2 m c) d := by
  have hp := PreFacts.elements _ _ _ _ _ _ _ _ _ _ _ _ (hm c)
  rw [Carried.result_apply]
  exact layer_gated _ _ _ _ _ _ _ _ (fun k => hp.f0 r k) (fun k j => hp.f2 k j)

/-- The kernel's array and the reference's are equal. -/
theorem values : Cert.algebraic_KernelIdeal_ReferenceIdeal_pre_zero_biases_finite_router := by
  intro m g m' g' hm hargs
  refine ⟨fun c => Cert.KernelIdeal.Value.G7 m c, Cert.KernelIdeal.Value.run m g, ?_⟩
  refine (θ_run Cert.ReferenceIdeal.defs _ _).mono (fun r h c => ⟨(h c).1.trans ?_, (h c).2⟩)
    (Cert.ReferenceIdeal.Value.run m' g')
  obtain ⟨a0, a1, a2, a3, a4, a5, a6, a7, a8, a9, a10, a11⟩ := hargs c
  have hp := PreFacts.elements _ _ _ _ _ _ _ _ _ _ _ _ (hm c)
  rw [Cert.ReferenceIdeal.Read.val_main_v63_eq, a0, a1, a2, a3, a4, a5, a6, a7, a8, a9, a10, a11]
  funext i
  rw [eq_ix2 i]
  exact (RefValue.result _ _ _ _ _ _ _ _ _ _ _ _ hp.b3 hp.b5 hp.b7 hp.b9 hp.b11 _ _).trans
    (kernel_value m hm c _ _).symm

end Cert.Claims

end
-- ==== Proof.lean ====
/-
  The proof of `Cert.Claim`: the witnesses of the programs' stated facts, then one term for each claim. The kernel's frames
  are the generated ones; the reference's frames and the value claim are in Proof/Claims.lean; the two named constants
  are the rule's statement at the value each name has.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_zero_biases_finite_router
public import proofs.«01_k».proof.Proof.Claims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_zero_biases_finite_router.Gen.facts,
    fun m ρ _ => Cert.Kernel.Gen.frame m ρ,
    fun m ρ _ => Cert.KernelIdeal.Gen.frame m ρ,
    fun m ρ _ => Cert.KernelIdeal.Gen.frame m ρ,
    Cert.Claims.frame_reference,
    Cert.Claims.frame_reference_pre,
    ⟨IdealRules.named_const.statement Cert.KernelIdeal.κ "cubic" .bf16 0x3D37#16 _ rfl,
      IdealRules.named_const.statement Cert.KernelIdeal.κ "root" .bf16 0x3F4C#16 _ rfl⟩,
    Cert.Claims.values⟩

end Cert.Proof

end
